-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.HalfStatement Cert.KernelIdeal.S128x1024
  ∧ IdealRules.bf16_pair.Statement Cert.KernelIdeal.S256x1024 Cert.KernelIdeal.S128x1024

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x4096 : Shape := ⟨3, ![1, 256, 4096]⟩
abbrev S2048x14336 : Shape := ⟨2, ![2048, 14336]⟩
abbrev S32x14336 : Shape := ⟨2, ![32, 14336]⟩
abbrev S256x4096 : Shape := ⟨2, ![256, 4096]⟩
abbrev S256x14336 : Shape := ⟨2, ![256, 14336]⟩
abbrev S2048x1024 : Shape := ⟨2, ![2048, 1024]⟩
abbrev S32x1024 : Shape := ⟨2, ![32, 1024]⟩
abbrev S256x1024 : Shape := ⟨2, ![256, 1024]⟩
abbrev S256x256 : Shape := ⟨2, ![256, 256]⟩
abbrev S256x128 : Shape := ⟨2, ![256, 128]⟩
abbrev S128x1024 : Shape := ⟨2, ![128, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S1x256x4096, .bf16⟩
  | .hbm, ⟨1, _⟩ => ⟨S2048x14336, .i8⟩
  | .hbm, ⟨2, _⟩ => ⟨S32x14336, .bf16⟩
  | .hbm, ⟨3, _⟩ => ⟨S256x4096, .bf16⟩
  | .hbm, ⟨4, _⟩ => ⟨S256x14336, .bf16⟩
  | .local _ .vmem, ⟨0, _⟩ => ⟨S256x4096, .bf16⟩
  | .local _ .vmem, ⟨1, _⟩ => ⟨S2048x1024, .i8⟩
  | .local _ .vmem, ⟨2, _⟩ => ⟨S2048x1024, .i8⟩
  | .local _ .vmem, ⟨3, _⟩ => ⟨S32x1024, .bf16⟩
  | .local _ .vmem, ⟨4, _⟩ => ⟨S32x1024, .bf16⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | _, _ => ⟨S1x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S1x256x4096 : Shape := ⟨3, ![1, 256, 4096]⟩
abbrev S2048x14336 : Shape := ⟨2, ![2048, 14336]⟩
abbrev S32x14336 : Shape := ⟨2, ![32, 14336]⟩
abbrev S2x2 : Shape := ⟨2, ![2, 2]⟩
abbrev S2 : Shape := ⟨1, ![2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S256x32x128 : Shape := ⟨3, ![256, 32, 128]⟩
abbrev S256x2x2048 : Shape := ⟨3, ![256, 2, 2048]⟩
abbrev S2x1x1 : Shape := ⟨3, ![2, 1, 1]⟩
abbrev S1x2048x14336 : Shape := ⟨3, ![1, 2048, 14336]⟩
abbrev S2x2048x14336 : Shape := ⟨3, ![2, 2048, 14336]⟩
abbrev S2x16x1x14336 : Shape := ⟨4, ![2, 16, 1, 14336]⟩
abbrev S2x16x128x14336 : Shape := ⟨4, ![2, 16, 128, 14336]⟩
abbrev S256x14336 : Shape := ⟨2, ![256, 14336]⟩

abbrev nBuf : Space → Nat
  | .hbm => 73
  | .vmem => 0
  | .smem => 0
  | _ => 0

abbrev bufTy : (tb : Table) → Fin (tcTables nBuf tb) → BufTy
  | .hbm, ⟨0, _⟩ => ⟨S1x256x4096, .bf16⟩
  | .hbm, ⟨1, _⟩ => ⟨S2048x14336, .i8⟩
  | .hbm, ⟨2, _⟩ => ⟨S32x14336, .bf16⟩
  | .hbm, ⟨3, _⟩ => ⟨S2x2, .f32⟩
  | .hbm, ⟨4, _⟩ => ⟨S2, .i32⟩
  | .hbm, ⟨5, _⟩ => ⟨S_, .f32⟩
  | .hbm, ⟨6, _⟩ => ⟨S1x1, .f32⟩
  | .hbm, ⟨7, _⟩ => ⟨S1x1x1x1, .f32⟩
  | .hbm, ⟨8, _⟩ => ⟨S1x2x1x2, .f32⟩
  | .hbm, ⟨9, _⟩ => ⟨S1x2x1x2, .f32⟩
  | .hbm, ⟨10, _⟩ => ⟨S1x2x1x2, .f32⟩
  | .hbm, ⟨11, _⟩ => ⟨S2x2, .f32⟩
  | .hbm, ⟨12, _⟩ => ⟨S2x1x2x1, .f32⟩
  | .hbm, ⟨13, _⟩ => ⟨S1x2x1x2, .f32⟩
  | .hbm, ⟨14, _⟩ => ⟨S2x2x2x2, .f32⟩
  | .hbm, ⟨15, _⟩ => ⟨S2x2x2x2, .f32⟩
  | .hbm, ⟨16, _⟩ => ⟨S2x2x2x2, .f32⟩
  | .hbm, ⟨17, _⟩ => ⟨S4x4, .f32⟩
  | .hbm, ⟨18, _⟩ => ⟨S4x1x4x1, .f32⟩
  | .hbm, ⟨19, _⟩ => ⟨S1x2x1x2, .f32⟩
  | .hbm, ⟨20, _⟩ => ⟨S4x2x4x2, .f32⟩
  | .hbm, ⟨21, _⟩ => ⟨S4x2x4x2, .f32⟩
  | .hbm, ⟨22, _⟩ => ⟨S4x2x4x2, .f32⟩
  | .hbm, ⟨23, _⟩ => ⟨S8x8, .f32⟩
  | .hbm, ⟨24, _⟩ => ⟨S8x1x8x1, .f32⟩
  | .hbm, ⟨25, _⟩ => ⟨S1x2x1x2, .f32⟩
  | .hbm, ⟨26, _⟩ => ⟨S8x2x8x2, .f32⟩
  | .hbm, ⟨27, _⟩ => ⟨S8x2x8x2, .f32⟩
  | .hbm, ⟨28, _⟩ => ⟨S8x2x8x2, .f32⟩
  | .hbm, ⟨29, _⟩ => ⟨S16x16, .f32⟩
  | .hbm, ⟨30, _⟩ => ⟨S16x1x16x1, .f32⟩
  | .hbm, ⟨31, _⟩ => ⟨S1x2x1x2, .f32⟩
  | .hbm, ⟨32, _⟩ => ⟨S16x2x16x2, .f32⟩
  | .hbm, ⟨33, _⟩ => ⟨S16x2x16x2, .f32⟩
  | .hbm, ⟨34, _⟩ => ⟨S16x2x16x2, .f32⟩
  | .hbm, ⟨35, _⟩ => ⟨S32x32, .f32⟩
  | .hbm, ⟨36, _⟩ => ⟨S32x1x32x1, .f32⟩
  | .hbm, ⟨37, _⟩ => ⟨S1x2x1x2, .f32⟩
  | .hbm, ⟨38, _⟩ => ⟨S32x2x32x2, .f32⟩
  | .hbm, ⟨39, _⟩ => ⟨S32x2x32x2, .f32⟩
  | .hbm, ⟨40, _⟩ => ⟨S32x2x32x2, .f32⟩
  | .hbm, ⟨41, _⟩ => ⟨S64x64, .f32⟩
  | .hbm, ⟨42, _⟩ => ⟨S64x1x64x1, .f32⟩
  | .hbm, ⟨43, _⟩ => ⟨S1x2x1x2, .f32⟩
  | .hbm, ⟨44, _⟩ => ⟨S64x2x64x2, .f32⟩
  | .hbm, ⟨45, _⟩ => ⟨S64x2x64x2, .f32⟩
  | .hbm, ⟨46, _⟩ => ⟨S64x2x64x2, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x256x4096, .f32⟩
  | .hbm, ⟨52, _⟩ => ⟨S256x32x128, .f32⟩
  | .hbm, ⟨53, _⟩ => ⟨S256x32x128, .f32⟩
  | .hbm, ⟨54, _⟩ => ⟨S256x32x128, .bf16⟩
  | .hbm, ⟨55, _⟩ => ⟨S256x2x2048, .bf16⟩
  | .hbm, ⟨56, _⟩ => ⟨S2048x14336, .i32⟩
  | .hbm, ⟨57, _⟩ => ⟨S2x1x1, .i32⟩
  | .hbm, ⟨58, _⟩ => ⟨S1x2048x14336, .i32⟩
  | .hbm, ⟨59, _⟩ => ⟨S2x2048x14336, .i32⟩
  | .hbm, ⟨60, _⟩ => ⟨S2x2048x14336, .i32⟩
  | .hbm, ⟨61, _⟩ => ⟨S2x2048x14336, .i32⟩
  | .hbm, ⟨62, _⟩ => ⟨S_, .i32⟩
  | .hbm, ⟨63, _⟩ => ⟨S2x2048x14336, .i32⟩
  | .hbm, ⟨64, _⟩ => ⟨S2x2048x14336, .i32⟩
  | .hbm, ⟨65, _⟩ => ⟨S2x16x1x14336, .bf16⟩
  | .hbm, ⟨66, _⟩ => ⟨S2x2048x14336, .bf16⟩
  | .hbm, ⟨67, _⟩ => ⟨S2x16x128x14336, .bf16⟩
  | .hbm, ⟨68, _⟩ => ⟨S2x16x128x14336, .bf16⟩
  | .hbm, ⟨69, _⟩ => ⟨S2x16x128x14336, .bf16⟩
  | .hbm, ⟨70, _⟩ => ⟨S2x2048x14336, .bf16⟩
  | .hbm, ⟨71, _⟩ => ⟨S256x14336, .f32⟩
  | .hbm, ⟨72, _⟩ => ⟨S256x14336, .bf16⟩
  | _, _ => ⟨S1x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_cst_0 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v1 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v2 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v3 : Ref sig .tc := ⟨.hbm, 23, rfl⟩
abbrev main_call3_v0 : Ref sig .tc := ⟨.hbm, 24, rfl⟩
abbrev main_call3_v1 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_v4 : Ref sig .tc := ⟨.hbm, 29, rfl⟩
abbrev main_call4_v0 : Ref sig .tc := ⟨.hbm, 30, rfl⟩
abbrev main_call4_v1 : Ref sig .tc := ⟨.hbm, 31, rfl⟩
abbrev main_call4_v2 : Ref sig .tc := ⟨.hbm, 32, rfl⟩
abbrev main_call4_v3 : Ref sig .tc := ⟨.hbm, 33, rfl⟩
abbrev main_call4_v4 : Ref sig .tc := ⟨.hbm, 34, rfl⟩
abbrev main_v5 : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_v6 : Ref sig .tc := ⟨.hbm, 41, rfl⟩
abbrev main_call6_v0 : Ref sig .tc := ⟨.hbm, 42, rfl⟩
abbrev main_call6_v1 : Ref sig .tc := ⟨.hbm, 43, rfl⟩
abbrev main_call6_v2 : Ref sig .tc := ⟨.hbm, 44, rfl⟩
abbrev main_call6_v3 : Ref sig .tc := ⟨.hbm, 45, rfl⟩
abbrev main_call6_v4 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== Proof.Step.lean ====
/-
  The kernel's arithmetic, named once: the codes and scales of one group of weights, the accumulation over one group, and the
  chain of the sixteen groups. Each is the very composition of operations that the kernel's body performs.
-/
module

public import proofs.«01_k».proof.Proof.Gen.KernelIdeal.Skeleton
public import Idealize.ShloMosaic.Lib.Pipeline.Value

@[expose] public section

noncomputable section

namespace Cert.Proof

open Cert.KernelIdeal Cert.KernelIdeal.Gen Idealize.ShloMosaic Idealize.ShloMosaic.TcCoe

variable {F : FTy → Type} [FloatOps F]

/-- The codes of one group: of a block of packed bytes `p`, row `2i` holds the signed low nibble of `p`'s row `i` and row
    `2i + 1` the signed high nibble. -/
def codes (p : Vec F S128x1024 .i8) : IVec S256x1024 16 :=
  bitcast S256x1024 16
    (ori
      (andi (shrsi (shli (extui 32 p natLt_8_32) (broadcast S128x1024 28#32)) (broadcast S128x1024 28#32)) (broadcast S128x1024 65535#32))
      (shli (shrsi (shli (extui 32 p natLt_8_32) (broadcast S128x1024 24#32)) (broadcast S128x1024 28#32)) (broadcast S128x1024 16#32)))
    bitcasts_S128x1024_w32_S256x1024_w16

/-- A row of scales repeated over the 128 rows of a group. -/
def spread (s : Vec F S1x1024 .bf16) : FVec F S128x1024 .bf16 :=
  broadcastTo S128x1024 (shapeCast S1x1024 s shapeCasts_S1x1024_S1x1024) broadcasts_S1x1024_S128x1024

/-- One group: the accumulator plus the product of the rotated activations `x` with the group's weights — the codes times the
    scales, the low rows' scales `lo` at the even rows and the high rows' scales `hi` at the odd rows. -/
def group (acc : FVec F S256x1024 .f32) (p : Vec F S128x1024 .i8) (lo hi : Vec F S1x1024 .bf16) (x : Vec F S256x256 .bf16) :
    FVec F S256x1024 .f32 :=
  addf acc (matmul dot_S256x256_S256x1024_S256x1024_1_0_0_1_n_n none x
    (mulf (sitofp .bf16 (codes (F := F) p)) (interleaveRows S256x1024 (spread lo) (spread hi) bitcasts_S256x1024_w16_S128x1024_w32))
    (constant S256x1024 .f32 0x00000000#32))

/-- The accumulator after the first `n` groups, started at zero: group `g` takes the packed rows `p g`, the scale rows `s g` and
    `s (16 + g)`, and the rotated columns `x g`. -/
def chain (p : Fin 16 → Vec F S128x1024 .i8) (s : Fin 32 → Vec F S1x1024 .bf16) (x : Fin 16 → Vec F S256x256 .bf16) :
    (n : ℕ) → n ≤ 16 → FVec F S256x1024 .f32
  | 0, _ => broadcast S256x1024 (Scalar.ofBits .f32 0x00000000#32)
  | n + 1, h => group (chain p s x n (by omega)) (p ⟨n, h⟩) (s ⟨n, by omega⟩) (s ⟨16 + n, by omega⟩) (x ⟨n, h⟩)

/-- The 128 rows of packed bytes of group `g` in a block of packed bytes. -/
def packedRows (X : Vec F S2048x1024 .i8) (g : Fin 16) : Vec F S128x1024 .i8 :=
  View.ld X (Rect.unit (s := S2048x1024) ![128 * g.val, 0] S128x1024.size
    (fun a => match a with | ⟨0, _⟩ => show 128 * g.val + 128 ≤ 2048 by omega | ⟨1, _⟩ => show 0 + 1024 ≤ 1024 by omega))

/-- Row `r` of a block of scales. -/
def scaleRow (X : Vec F S32x1024 .bf16) (r : Fin 32) : Vec F S1x1024 .bf16 :=
  View.ld X (Rect.unit (s := S32x1024) ![r.val, 0] S1x1024.size
    (fun a => match a with | ⟨0, _⟩ => show r.val + 1 ≤ 32 by omega | ⟨1, _⟩ => show 0 + 1024 ≤ 1024 by omega))

/-- The 256 columns of group `g` in an array of rotated activations. -/
def rotatedCols (X : Vec F S256x4096 .bf16) (g : Fin 16) : Vec F S256x256 .bf16 :=
  View.ld X (Rect.unit (s := S256x4096) ![0, 256 * g.val] S256x256.size
    (fun a => match a with | ⟨0, _⟩ => show 0 + 256 ≤ 256 by omega | ⟨1, _⟩ => show 256 * g.val + 256 ≤ 4096 by omega))

/-- The 128 columns number `b` of the activations. -/
def actCols (X : Vec F S256x4096 .bf16) (b : Fin 32) : Vec F S256x128 .bf16 :=
  View.ld X (Rect.unit (s := S256x4096) ![0, 128 * b.val] S256x128.size
    (fun a => match a with | ⟨0, _⟩ => show 0 + 256 ≤ 256 by omega | ⟨1, _⟩ => show 128 * b.val + 128 ≤ 4096 by omega))

/-- The rotated columns of group `g`: the group's columns in the low half of the activations and in the high half, side by
    side, times the signed Hadamard matrix, scaled. -/
def rotation (X : Vec F S256x4096 .bf16) (g : Fin 16) : Vec F S256x256 .bf16 :=
  k0_pay4 (actCols X ⟨g.val, by omega⟩) (actCols X ⟨16 + g.val, by omega⟩)

/-- The block of results: the chain of all sixteen groups, in the result's format. -/
def blockResult (p : Vec F S2048x1024 .i8) (s : Vec F S32x1024 .bf16) (x : Fin 16 → Vec F S256x256 .bf16) : Vec F S256x1024 .bf16 :=
  truncf .bf16 (chain (packedRows p) (scaleRow s) x 16 (le_refl _)) bitsLt_bf16_f32

end Cert.Proof

end
-- ==== Proof.Open.lean ====
/-
  What the body leaves in its result block and in its scratch, at the first grid point and at a later one, as the named
  arithmetic of Step.lean.
-/
module

public import proofs.«01_k».proof.Proof.Step
public import proofs.«01_k».proof.Proof.Gen.KernelIdeal.Value
public import Idealize.ShloMosaic.Lib.Pipeline.ValueKit.Tiles

@[expose] public section

noncomputable section

namespace Cert.Proof

open Cert.KernelIdeal Cert.KernelIdeal.Gen Idealize.ShloMosaic Idealize.ShloMosaic.TcCoe Idealize.SL.Sem Idealize.ShloMosaic.Tactic

variable {F : FTy → Type} [FloatOps F]

/-- The offset of a window at the origin. -/
theorem zero_offset : (![0, 0] : Fin 2 → Nat) = fun _ => 0 := funext fun a => by fin_cases a <;> rfl

set_option maxHeartbeats 4000000 in
/-- At a later grid point the result block is the chain over the rotated columns that the scratch holds. -/
theorem result_later (c : Dev nD) (i : grid0.Coords) (arg1 : Memref sig .tc .vmem S256x4096 .bf16) (harg1 : arg1.IsWhole)
    (arg2 : Memref sig .tc .vmem S2048x1024 .i8) (harg2 : arg2.IsWhole) (arg3 : Memref sig .tc .vmem S32x1024 .bf16) (harg3 : arg3.IsWhole)
    (arg4 : Memref sig .tc .vmem S256x1024 .bf16) (harg4 : arg4.IsWhole) (arg5 : Memref sig .tc .vmem S256x4096 .bf16) (harg5 : arg5.IsWhole)
    (hc : ¬cond0_0 i) (x0 : Vec F S256x4096 .bf16) (x1 : Vec F S2048x1024 .i8) (x2 : Vec F S32x1024 .bf16) (xs : Vec F S256x4096 .bf16) :
    out0_B_3 c i arg1 harg1 arg2 harg2 arg3 harg3 arg4 harg4 arg5 harg5 hc x0 x1 x2 xs = blockResult x1 x2 (rotatedCols xs) := by
  unfold out0_B_3
  rw [View.read_writes_eq_canon _ _ _ (cover0_B_3 c _ _ _ _ _ _ _ _ _ _ _ _ _ _ _ _)]
  unfold kernelRun0_B
  dsimp only
  sl_unfold_words
  simp only [View.readAt_eq_ld, Memref.IsWhole.read_unread]
  rw [View.canon_unit_zero zero_offset]
  rfl

/-- Sixteen stores, each of one group's rotation into that group's columns, the last group on top: read back, the columns of
    group `g` are the rotation of group `g`. -/
theorem rotatedCols_pieces (x0 : Vec F S256x4096 .bf16) (g : Fin 16) :
    rotatedCols (View.canon (List.ofFn fun k : Fin 16 =>
      (⟨Rect.unit (s := S256x4096) ![0, 256 * k.rev.val] S256x256.size
        (fun a => match a with | ⟨0, _⟩ => show 0 + 256 ≤ 256 by omega | ⟨1, _⟩ => show 256 * k.rev.val + 256 ≤ 4096 by omega),
        rotation x0 k.rev⟩ : View.Piece (Elt F) S256x4096 .bf16))) g = rotation x0 g := by
  funext j
  refine View.canon_ofFn_unit_eq_of_forall (Val := Elt F) (S := S256x4096) (e := .bf16) (fun k : Fin 16 => ![0, 256 * k.rev.val])
    S256x256.size
    (fun k a => match a with | ⟨0, _⟩ => show 0 + 256 ≤ 256 by omega | ⟨1, _⟩ => show 256 * k.rev.val + 256 ≤ 4096 by omega) (fun k => rotation x0 k.rev) ((Rect.unit (s := S256x4096) ![0, 256 * g.val] S256x256.size _).idx j) (rotation x0 g j)
    ⟨g.rev, fun a => ?_⟩ fun k x hx => ?_
  · have h0 : (j 0).val < 256 := (j 0).isLt
    have h1 : (j 1).val < 256 := (j 1).isLt
    rw [Rect.idx_unit_val, Fin.rev_rev]
    fin_cases a
    · show 0 ≤ 0 + (j 0).val ∧ 0 + (j 0).val < 0 + 256
      omega
    · show 256 * g.val ≤ 256 * g.val + (j 1).val ∧ 256 * g.val + (j 1).val < 256 * g.val + 256
      omega
  · have e0 : 0 + (j 0).val = 0 + (x 0).val := (Rect.idx_unit_val _ _ _ _ _).symm.trans (hx 0)
    have e1 : 256 * g.val + (j 1).val = 256 * k.rev.val + (x 1).val := (Rect.idx_unit_val _ _ _ _ _).symm.trans (hx 1)
    have h1 : (j 1).val < 256 := (j 1).isLt
    have h2 : (x 1).val < 256 := (x 1).isLt
    have hg : k.rev = g := Fin.ext (by omega)
    have hj : x = j := funext fun a => Fin.ext (by
      fin_cases a
      · show (x 0).val = (j 0).val
        omega
      · show (x 1).val = (j 1).val
        rw [hg] at e1
        omega)
    rw [hg, hj]

set_option maxHeartbeats 4000000 in
/-- At the first grid point the result block is the chain over the rotation of the activations. -/
theorem result_first (c : Dev nD) (i : grid0.Coords) (arg1 : Memref sig .tc .vmem S256x4096 .bf16) (harg1 : arg1.IsWhole)
    (arg2 : Memref sig .tc .vmem S2048x1024 .i8) (harg2 : arg2.IsWhole) (arg3 : Memref sig .tc .vmem S32x1024 .bf16) (harg3 : arg3.IsWhole)
    (arg4 : Memref sig .tc .vmem S256x1024 .bf16) (harg4 : arg4.IsWhole) (arg5 : Memref sig .tc .vmem S256x4096 .bf16) (harg5 : arg5.IsWhole)
    (hc : cond0_0 i) (x0 : Vec F S256x4096 .bf16) (x1 : Vec F S2048x1024 .i8) (x2 : Vec F S32x1024 .bf16) :
    out0_A_3 c i arg1 harg1 arg2 harg2 arg3 harg3 arg4 harg4 arg5 harg5 hc x0 x1 x2 = blockResult x1 x2 (rotation x0) := by
  unfold out0_A_3
  rw [View.read_writes_eq_canon _ _ _ (cover0_A_3 c _ _ _ _ _ _ _ _ _ _ _ _ _ _ _)]
  unfold kernelRun0_A
  dsimp only
  sl_unfold_words
  simp only [View.readAt_eq_ld, Memref.IsWhole.read_unread, View.readCov_eq_canon']
  rw [View.canon_unit_zero zero_offset]
  generalize hC : View.canon (Val := Elt F) (s := S256x4096) (e := .bf16) _ = C
  have hx : rotatedCols C = rotation x0 := by
    funext g
    rw [← hC]
    exact rotatedCols_pieces x0 g
  rw [← hx]
  rfl

set_option maxHeartbeats 4000000 in
/-- At the first grid point the scratch ends holding, in group `g`'s columns, the rotation of group `g`. -/
theorem scratch_first (c : Dev nD) (i : grid0.Coords) (arg1 : Memref sig .tc .vmem S256x4096 .bf16) (harg1 : arg1.IsWhole)
    (arg2 : Memref sig .tc .vmem S2048x1024 .i8) (harg2 : arg2.IsWhole) (arg3 : Memref sig .tc .vmem S32x1024 .bf16) (harg3 : arg3.IsWhole)
    (arg4 : Memref sig .tc .vmem S256x1024 .bf16) (harg4 : arg4.IsWhole) (arg5 : Memref sig .tc .vmem S256x4096 .bf16) (harg5 : arg5.IsWhole)
    (hc : cond0_0 i) (x0 : Vec F S256x4096 .bf16) (x1 : Vec F S2048x1024 .i8) (x2 : Vec F S32x1024 .bf16) (g : Fin 16) :
    rotatedCols (sout0_A_0 c i arg1 harg1 arg2 harg2 arg3 harg3 arg4 harg4 arg5 harg5 hc x0 x1 x2) g = rotation x0 g := by
  unfold sout0_A_0
  rw [View.read_writes_eq_canon _ _ _ (scover0_A_0 c _ _ _ _ _ _ _ _ _ _ _ _ _ _ _)]
  unfold kernelRun0_A
  dsimp only
  sl_unfold_words
  simp only [View.readAt_eq_ld, Memref.IsWhole.read_unread]
  exact rotatedCols_pieces x0 g

end Cert.Proof

end
-- ==== Proof.Points.lean ====
/-
  What the whole result array holds: at a row and a column, the block result of the column's block, over the arrays the kernel
  was given.
-/
module

public import proofs.«01_k».proof.Proof.Open
public import Idealize.ShloMosaic.Lib.ValueIdx

@[expose] public section

noncomputable section

namespace Cert.Proof

open Cert.KernelIdeal Cert.KernelIdeal.Gen Idealize.ShloMosaic Idealize.ShloMosaic.TcCoe Idealize.SL.Sem Idealize.ShloMosaic.Tactic

variable {F : FTy → Type} [FloatOps F]
variable (m : (ℓ : Loc nD τ sig) → Buf (Elt F) ℓ)

/-- The activations as the kernel sees them: the argument reshaped to two axes. -/
def acts (c : Dev nD) : Vec F S256x4096 .bf16 :=
  shapeCast S256x4096 (m ((c : Thread nD τ).loc main_arg0) : Vec F S1x256x4096 .bf16) shapeCasts_S1x256x4096_S256x4096

/-- The host's one operation before the kernel leaves the reshaped activations in the kernel's first array. -/
theorem entry_acts (c : Dev nD) : V m c main_v0 = acts m c := by
  show StableHlo.after hostOps0 _ _ = _
  unfold hostOps0
  rw [StableHlo.after_cons, StableHlo.after_nil]
  exact StableHlo.reshape_result' ..

/-- The block of the activations that the kernel reads is all of them, at every grid point. -/
theorem act_block (c : Dev nD) (t : Fin cfg0.N) : iblk m c 0 t = (acts m c : Vec F S256x4096 .bf16) := by
  rw [← entry_acts]
  funext j
  have h0 : ∀ t : Fin cfg0.N, win0_0.index t (0 : Fin 2) = 0 ∧ win0_0.index t (1 : Fin 2) = 0 := (by decide +kernel : ∀ t : Fin grid0.N, _)
  obtain ⟨e0, e1⟩ := h0 t
  refine congrArg (V m c main_v0) (funext fun a => Fin.ext ?_)
  have hj0 : (((cfg0.win 0).blk t).view.emb j 0).val = win0_0.index t (0 : Fin 2) * 256 + 1 * (j 0).val := rfl
  have hj1 : (((cfg0.win 0).blk t).view.emb j 1).val = win0_0.index t (1 : Fin 2) * 4096 + 1 * (j 1).val := rfl
  fin_cases a
  · exact hj0.trans (by rw [e0]; show 0 * 256 + 1 * (j 0).val = (j 0).val; omega)
  · exact hj1.trans (by rw [e1]; show 0 * 4096 + 1 * (j 1).val = (j 1).val; omega)

/-- Column `n` of block `t`, as a column of the whole array. -/
def column (t : Fin 14) (n : Fin 1024) : Fin 14336 := ⟨1024 * t.val + n.val, by omega⟩

/-- Block `t` of the packed bytes. -/
def packedBlock (c : Dev nD) (t : Fin 14) : Vec F S2048x1024 .i8 := fun j =>
  (m ((c : Thread nD τ).loc main_arg1) : Vec F S2048x14336 .i8) (ValueIdx.ix2 (j 0) (column t (j 1)))

/-- Block `t` of the scales. -/
def scaleBlock (c : Dev nD) (t : Fin 14) : Vec F S32x1024 .bf16 := fun j =>
  (m ((c : Thread nD τ).loc main_arg2) : Vec F S32x14336 .bf16) (ValueIdx.ix2 (j 0) (column t (j 1)))

/-- The window of packed weights at point `t` is column block `t`. -/
theorem packed_block (c : Dev nD) (t : Fin cfg0.N) : iblk m c 1 t = packedBlock m c ⟨t.val, lt_of_lt_of_eq t.isLt N_0⟩ := by
  funext j
  have h0 : ∀ t : Fin cfg0.N, win0_1.index t (0 : Fin 2) = 0 ∧ win0_1.index t (1 : Fin 2) = t.val := (by decide +kernel : ∀ t : Fin grid0.N, _)
  obtain ⟨e0, e1⟩ := h0 t
  refine (congrFun (V_main_arg1 m c) _).trans (congrArg (m ((c : Thread nD τ).loc main_arg1)) (funext fun a => Fin.ext ?_))
  have hj0 : (((cfg0.win 1).blk t).view.emb j 0).val = win0_1.index t (0 : Fin 2) * 2048 + 1 * (j 0).val := rfl
  have hj1 : (((cfg0.win 1).blk t).view.emb j 1).val = win0_1.index t (1 : Fin 2) * 1024 + 1 * (j 1).val := rfl
  fin_cases a
  · exact hj0.trans (by rw [e0]; show 0 * 2048 + 1 * (j 0).val = (j 0).val; omega)
  · exact hj1.trans (by rw [e1]; show t.val * 1024 + 1 * (j 1).val = 1024 * t.val + (j 1).val; omega)

/-- The window of scales at point `t` is column block `t`. -/
theorem scale_block (c : Dev nD) (t : Fin cfg0.N) : iblk m c 2 t = scaleBlock m c ⟨t.val, lt_of_lt_of_eq t.isLt N_0⟩ := by
  funext j
  have h0 : ∀ t : Fin cfg0.N, win0_2.index t (0 : Fin 2) = 0 ∧ win0_2.index t (1 : Fin 2) = t.val := (by decide +kernel : ∀ t : Fin grid0.N, _)
  obtain ⟨e0, e1⟩ := h0 t
  refine (congrFun (V_main_arg2 m c) _).trans (congrArg (m ((c : Thread nD τ).loc main_arg2)) (funext fun a => Fin.ext ?_))
  have hj0 : (((cfg0.win 2).blk t).view.emb j 0).val = win0_2.index t (0 : Fin 2) * 32 + 1 * (j 0).val := rfl
  have hj1 : (((cfg0.win 2).blk t).view.emb j 1).val = win0_2.index t (1 : Fin 2) * 1024 + 1 * (j 1).val := rfl
  fin_cases a
  · exact hj0.trans (by rw [e0]; show 0 * 32 + 1 * (j 0).val = (j 0).val; omega)
  · exact hj1.trans (by rw [e1]; show t.val * 1024 + 1 * (j 1).val = 1024 * t.val + (j 1).val; omega)

/-- After every grid point the scratch holds the rotation of the activations, group by group. -/
theorem scratch_at (c : Dev nD) (n : ℕ) (hn : n < cfg0.N) : rotatedCols (outsAt0 m c n hn).2 = rotation (acts m c) := by
  induction n with
  | zero =>
    funext g
    have h := outsAt0_A m c ⟨0, hn⟩ (Nat.zero_mod 14)
    dsimp only at h
    rw [h, ← act_block m c ⟨0, hn⟩]
    dsimp only
    rw [scratch_first]
  | succ n ih =>
    have hN := lt_of_lt_of_eq hn (show cfg0.N = 14 from N_0)
    have h := outsAt0_B m c ⟨n + 1, hn⟩ (by show ¬(n + 1) % 14 = 0; omega)
    dsimp only [sout0_B_0] at h
    rw [h]
    dsimp only [Nat.add_sub_cancel]
    exact ih _

/-- After grid point `t` the result block holds the block result of block `t`. -/
theorem result_at (c : Dev nD) (t : Fin cfg0.N) : (outsAt0 m c t.val t.isLt).1 =
    blockResult (packedBlock m c ⟨t.val, lt_of_lt_of_eq t.isLt N_0⟩) (scaleBlock m c ⟨t.val, lt_of_lt_of_eq t.isLt N_0⟩) (rotation (acts m c)) := by
  rw [← packed_block, ← scale_block]
  by_cases h0 : t.val % 14 = 0
  · rw [outsAt0_A m c t h0, ← act_block m c t]
    dsimp only
    rw [result_first]
  · rw [outsAt0_B m c t h0, ← scratch_at m c (t.val - 1) (Nat.lt_of_le_of_lt (Nat.sub_le _ _) t.isLt)]
    dsimp only
    rw [result_later]

/-- The result array at row `r` and column `n` of block `t`. -/
theorem array_at (c : Dev nD) (r : Fin 256) (t : Fin 14) (n : Fin 1024) :
    Cert.KernelIdeal.Value.G3 m c (ValueIdx.ix2 r (column t n) : S256x14336.Idx) =
      blockResult (packedBlock m c t) (scaleBlock m c t) (rotation (acts m c)) (ValueIdx.ix2 r n) := by
  have hp : Cert.KernelIdeal.Value.pt3Of (ValueIdx.ix2 r (column t n) : S256x14336.Idx) = t.val := by
    show 14 * (r.val / 256 - 0) + 1 * ((1024 * t.val + n.val) / 1024 - 0) = t.val
    omega
  have hl : Cert.KernelIdeal.Value.loc3Of (ValueIdx.ix2 r (column t n) : S256x14336.Idx) = ValueIdx.ix2 r n := funext fun a => Fin.ext (by
    fin_cases a
    · show r.val % 256 = r.val
      omega
    · show (1024 * t.val + n.val) % 1024 = n.val
      omega)
  have ht : t.val < cfg0.N := lt_of_lt_of_eq t.isLt (show cfg0.N = 14 from N_0).symm
  unfold Cert.KernelIdeal.Value.G3
  rw [dif_pos (by rw [hp]; exact ht), Cert.KernelIdeal.Value.fold0_congr m c _ _ t.val (by omega) hp, ← Cert.KernelIdeal.Value.outsAt0_sweep m c t.val ht, hl,
    result_at m c ⟨t.val, ht⟩]

end Cert.Proof

end
-- ==== Proof.Maths.lean ====
/-
  The mathematics on its own, with neither program in sight: the signed nibbles of a byte, the signs of the Hadamard matrix, the
  rotated activations, the dequantized weights, and the linear layer over them, all in extended reals.
-/
module

public import Idealize.ShloMosaic.PureOps.Ideal
public import Idealize.ShloMosaic.Lib.ValueIdx

@[expose] public section

noncomputable section

namespace Cert.Proof

open Idealize.ShloMosaic Idealize.ShloMosaic.ValueIdx

/-- The signed low (`t = 0`) or high (`t = 1`) nibble of a byte. -/
def nibble (b : BitVec 8) (t : ℕ) : ℤ := ((b.setWidth 32 <<< (28 - 4 * t)).sshiftRight 28).toInt

/-- Whether the Hadamard matrix of size `2 ^ d` has a minus sign at `(i, j)`: the parity of the number of bits that `i` and `j`
    have in common. -/
def minus : ℕ → ℕ → ℕ → Bool
  | 0, _, _ => false
  | d + 1, i, j => (minus d (i / 2) (j / 2)) ^^ (i % 2 == 1 && j % 2 == 1)

/-- The sign of the Hadamard matrix of size 128. -/
def sign (i j : ℕ) : ℝ := if minus 7 i j then -1 else 1

/-- The scale of the Hadamard matrix: the single-precision number nearest to one over the square root of 128. -/
def gain : ℝ := 11863283 / 2 ^ 27

/-- The scale is not negative. -/
theorem gain_nonneg : 0 ≤ gain := by
  unfold gain
  positivity

/-- A finite nonnegative factor distributes over a sum of extended reals, infinities included. -/
theorem sum_mul_coe {ι : Type} (s : Finset ι) (f : ι → EReal) (a : ℝ) (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih, mul_comm,
      EReal.left_distrib_of_nonneg_of_ne_top (EReal.coe_nonneg.mpr ha) (EReal.coe_ne_top a), mul_comm (a : EReal), mul_comm (a : EReal)]

/-- The rotated activation in half `t`, block `b`, column `j`: the block's 128 activations times the scaled Hadamard matrix. -/
def rotated (X : Fin 256 → Fin 4096 → EReal) (r : Fin 256) (b : Fin 32) (j : ℕ) : EReal :=
  ∑ i : Fin 128, X r ⟨128 * b.val + i.val, by omega⟩ * ((sign i.val j * gain : ℝ) : EReal)

/-- The linear layer at row `r`, over one column of packed bytes `p` and of scales `s`: over the two halves and the 2048 rows
    of each, the rotated activation times the weight, which is the row's code times its group's scale. -/
def linear (X : Fin 256 → Fin 4096 → EReal) (p : Fin 2048 → BitVec 8) (s : Fin 32 → EReal) (r : Fin 256) : EReal :=
  ∑ t : Fin 2, ∑ k : Fin 2048, rotated X r ⟨16 * t.val + k.val / 128, by omega⟩ (k.val % 128) *
    (((nibble (p k) t.val : ℝ) : EReal) * s ⟨16 * t.val + k.val / 128, by omega⟩)

end Cert.Proof

end
-- ==== Proof.Weights.lean ====
/-
  What one group of weights adds to the accumulator, and what the chain of sixteen groups computes, in extended reals.
-/
module

public import proofs.«01_k».proof.Proof.Step
public import proofs.«01_k».proof.Proof.Maths
public import Idealize.ShloMosaic.Lib.BitcastPair
public import Idealize.ShloMosaic.Lib.MatmulPlain
public import Idealize.ShloMosaic.Lib.IdealHost
public import Idealize.ShloMosaic.Lib.ValueLayout
public import Idealize.ShloMosaic.Lib.Pipeline.ValueKit.Tiles

@[expose] public section

noncomputable section

namespace Cert.Proof

open Cert.KernelIdeal Cert.KernelIdeal.Gen Idealize.ShloMosaic Idealize.ShloMosaic.TcCoe Idealize.ShloMosaic.ValueIdx

/-- The low sixteen bits of the kernel's word of two codes are the byte's signed low nibble. -/
theorem low_half : ∀ b : BitVec 8,
    ((IntOp.ori (IntOp.andi (IntOp.shrsi .vector (IntOp.shli .vector (b.setWidth 32) 28#32) 28#32) 65535#32)
      (IntOp.shli .vector (IntOp.shrsi .vector (IntOp.shli .vector (b.setWidth 32) 24#32) 28#32) 16#32)).extractLsb' 0 16).toInt = nibble b 0 := by
  decide +kernel

/-- The high sixteen bits of the kernel's word of two codes are the byte's signed high nibble. -/
theorem high_half : ∀ b : BitVec 8,
    ((IntOp.ori (IntOp.andi (IntOp.shrsi .vector (IntOp.shli .vector (b.setWidth 32) 28#32) 28#32) 65535#32)
      (IntOp.shli .vector (IntOp.shrsi .vector (IntOp.shli .vector (b.setWidth 32) 24#32) 28#32) 16#32)).extractLsb' 16 16).toInt = nibble b 1 := by
  decide +kernel

/-- Row `k` of a group's codes: the low nibble of byte row `k / 2` when `k` is even, its high nibble when `k` is odd. -/
theorem codes_apply (p : Vec Ideal S128x1024 .i8) (k : Fin 256) (n : Fin 1024) :
    (codes (F := Ideal) p (ix2 k n)).toInt = nibble (p (ix2 ⟨k.val / 2, by omega⟩ n)) (k.val % 2) := by
  have hrow : S256x1024.row (ix2 k n) = k.val := by
    simp only [Shape.row, dif_pos (show 2 ≤ S256x1024.rank by decide)]
    rfl
  unfold codes
  rw [bitcast_32_16]
  have hs : ∀ hp, (bitcasts_S128x1024_w32_S256x1024_w16).srcIdx (ix2 k n) (S256x1024.row (ix2 k n) / 2) hp = ix2 ⟨k.val / 2, by omega⟩ n := fun hp =>
    funext fun a => Fin.ext (by
      fin_cases a
      · exact (Shape.Bitcasts.srcIdx_row _ _ _ _ _ rfl).trans (by rw [hrow])
      · exact Shape.Bitcasts.srcIdx_other _ _ _ _ _ (by decide))
  rw [hs, hrow]
  rcases Nat.mod_two_eq_zero_or_one k.val with h | h <;> rw [h]
  · exact low_half _
  · exact high_half _

/-- The scales of a group at row `k`: the low rows' scale when `k` is even, the high rows' scale when `k` is odd. -/
theorem scales_apply (lo hi : Vec Ideal S1x1024 .bf16) (k : Fin 256) (n : Fin 1024) :
    interleaveRows S256x1024 (spread lo) (spread hi) bitcasts_S256x1024_w16_S128x1024_w32 (ix2 k n)
      = if k.val % 2 = 0 then lo (ix2 (0 : Fin 1) n) else hi (ix2 (0 : Fin 1) n) := by
  have hrow : S256x1024.row (ix2 k n) = k.val := by
    simp only [Shape.row, dif_pos (show 2 ≤ S256x1024.rank by decide)]
    rfl
  have hsp : ∀ (s : Vec Ideal S1x1024 .bf16) (j : S128x1024.Idx), spread s j = s (ix2 (0 : Fin 1) (j 1)) := fun s j => by
    unfold spread
    rw [shapeCast_self, eq_ix2 j]
    exact broadcastTo_1b_ab_apply s _ _ _
  unfold interleaveRows
  rw [hrow]
  dsimp only
  rw [hsp, hsp]
  rfl

/-- One group adds, at row `r` and column `n`, the sum over its 256 rows of weights of activation times code times scale. -/
theorem group_apply (acc : FVec Ideal S256x1024 .f32) (p : Vec Ideal S128x1024 .i8) (lo hi : Vec Ideal S1x1024 .bf16)
    (x : Vec Ideal S256x256 .bf16) (r : Fin 256) (n : Fin 1024) :
    group acc p lo hi x (ix2 r n) = (acc (ix2 r n) : EReal) + ∑ k : Fin 256, (x (ix2 r k) : EReal) *
      (((nibble (p (ix2 ⟨k.val / 2, by omega⟩ n)) (k.val % 2) : ℝ) : EReal)
        * (if k.val % 2 = 0 then lo (ix2 (0 : Fin 1) n) else hi (ix2 (0 : Fin 1) n))) := by
  unfold group
  rw [addf_apply]
  refine congrArg (acc (ix2 r n) + ·) ?_
  refine (Ideal.matmul_plain_apply (M := 256) (K := 256) (N := 1024) (φ₁ := .bf16) (φ₂ := .bf16) none x _ _ r n).trans ?_
  rw [constant_apply, Ideal.ofBits_zero_f32, zero_add]
  refine Finset.sum_congr rfl fun k _ => ?_
  rw [mulf_apply, scales_apply, ← codes_apply]
  rfl

/-- The chain's first `n` groups, at row `r` and column `c`. -/
theorem chain_apply (p : Fin 16 → Vec Ideal S128x1024 .i8) (s : Fin 32 → Vec Ideal S1x1024 .bf16)
    (x : Fin 16 → Vec Ideal S256x256 .bf16) (r : Fin 256) (c : Fin 1024) : ∀ (n : ℕ) (h : n ≤ 16),
    (chain p s x n h (ix2 r c) : EReal) = ∑ g : Fin n, ∑ k : Fin 256, (x ⟨g.val, by omega⟩ (ix2 r k) : EReal) *
      (((nibble (p ⟨g.val, by omega⟩ (ix2 ⟨k.val / 2, by omega⟩ c)) (k.val % 2) : ℝ) : EReal)
        * s ⟨16 * (k.val % 2) + g.val, by omega⟩ (ix2 (0 : Fin 1) c))
  | 0, _ => (broadcast_apply _ _).trans Ideal.ofBits_zero_f32
  | n + 1, h => by
    rw [chain, group_apply, chain_apply p s x r c n (by omega), Fin.sum_univ_castSucc (n := n)]
    refine congrArg₂ (fun a b : EReal => a + b) rfl (Finset.sum_congr rfl fun k _ => ?_)
    rcases Nat.mod_two_eq_zero_or_one k.val with hk | hk
    · simp only [hk, if_pos, Fin.val_last, Nat.mul_zero, Nat.zero_add]
    · simp only [hk, if_neg one_ne_zero, Fin.val_last, Nat.mul_one]

/-- The block result at row `r` and column `c`: over the sixteen groups and the 256 rows of weights of each, the activation
    times the code times the scale. -/
theorem blockResult_apply (p : Vec Ideal S2048x1024 .i8) (s : Vec Ideal S32x1024 .bf16) (x : Fin 16 → Vec Ideal S256x256 .bf16)
    (r : Fin 256) (c : Fin 1024) :
    (blockResult p s x (ix2 r c) : EReal) = ∑ g : Fin 16, ∑ k : Fin 256, (x g (ix2 r k) : EReal) *
      (((nibble (p (ix2 ⟨128 * g.val + k.val / 2, by omega⟩ c)) (k.val % 2) : ℝ) : EReal)
        * s (ix2 ⟨16 * (k.val % 2) + g.val, by omega⟩ c)) := by
  have hp : ∀ (g : Fin 16) (i : Fin 128), packedRows p g (ix2 i c) = p (ix2 ⟨128 * g.val + i.val, by omega⟩ c) := fun g i =>
    View.ld_unit_apply_of _ _ _ _ _ _ fun a => by
      fin_cases a
      · rfl
      · exact (Nat.zero_add _).symm
  have hs : ∀ g : Fin 32, scaleRow s g (ix2 (0 : Fin 1) c) = s (ix2 g c) := fun g =>
    View.ld_unit_apply_of _ _ _ _ _ _ fun a => by
      fin_cases a
      · rfl
      · exact (Nat.zero_add _).symm
  unfold blockResult
  rw [truncf_apply, chain_apply]
  refine Finset.sum_congr rfl fun g _ => Finset.sum_congr rfl fun k _ => ?_
  rw [hp, hs]

end Cert.Proof

end
-- ==== Proof.Constants.lean ====
/-
  The real numbers that the float constants of the two programs denote.
-/
module

public import proofs.«01_k».proof.Proof.Maths

@[expose] public section

noncomputable section

namespace Cert.Proof

open Idealize.ShloMosaic

/-- The single-precision scale of the Hadamard matrix. -/
theorem ofBits_gain : Ideal.ofBits .f32 0x3DB504F3#32 = ((gain : ℝ) : EReal) := by
  simp [Ideal.ofBits, Ideal.ieee, gain, -EReal.coe_mul]
  norm_num

/-- Sixteen. -/
theorem ofBits_sixteen : Ideal.ofBits .f32 0x41800000#32 = ((16 : ℝ) : EReal) := by
  simp [Ideal.ofBits, Ideal.ieee, -EReal.coe_mul]
  norm_num

/-- One sixteenth. -/
theorem ofBits_sixteenth : Ideal.ofBits .f32 0x3D800000#32 = ((1 / 16 : ℝ) : EReal) := by
  simp [Ideal.ofBits, Ideal.ieee, -EReal.coe_mul]
  norm_num

/-- Minus one sixteenth. -/
theorem ofBits_minus_sixteenth : Ideal.ofBits .f32 0xBD800000#32 = ((-1 / 16 : ℝ) : EReal) := by
  simp [Ideal.ofBits, Ideal.ieee, -EReal.coe_mul]
  norm_num

/-- One. -/
theorem ofBits_one : Ideal.ofBits .f32 0x3F800000#32 = ((1 : ℝ) : EReal) := by
  simp [Ideal.ofBits, Ideal.ieee, -EReal.coe_mul]
  norm_num

/-- Minus one. -/
theorem ofBits_minus_one : Ideal.ofBits .f32 0xBF800000#32 = ((-1 : ℝ) : EReal) := by
  simp [Ideal.ofBits, Ideal.ieee, -EReal.coe_mul]
  norm_num

end Cert.Proof

end
-- ==== Proof.Rotation.lean ====
/-
  What the kernel's rotation of one group computes, in extended reals.
-/
module

public import proofs.«01_k».proof.Proof.Step
public import proofs.«01_k».proof.Proof.Constants
public import Idealize.ShloMosaic.Lib.MatmulPlain
public import Idealize.ShloMosaic.Lib.IdealHost
public import Idealize.ShloMosaic.Lib.Pipeline.ValueKit.Tiles

@[expose] public section

noncomputable section

namespace Cert.Proof

open Cert.KernelIdeal Cert.KernelIdeal.Gen Idealize.ShloMosaic Idealize.ShloMosaic.TcCoe Idealize.ShloMosaic.ValueIdx

/-- The word of a row's number without its top bit. -/
theorem row_word : ∀ a : Fin 256, IntOp.andi (BitVec.ofNat 32 a.val) 127#32 = BitVec.ofNat 32 (a.val % 128) := by
  decide +kernel

/-- The word of half a column's number. -/
theorem column_word : ∀ b : Fin 256, IntOp.shrsi .vector (BitVec.ofNat 32 b.val) 1#32 = BitVec.ofNat 32 (b.val / 2) := by
  decide +kernel

/-- A row's top bit against a column's lowest bit. -/
theorem same_half : ∀ a b : Fin 256,
    IntOp.cmpi .eq (IntOp.shrsi .vector (BitVec.ofNat 32 a.val) 7#32) (IntOp.andi (BitVec.ofNat 32 b.val) 1#32)
      = BitVec.ofBool (a.val / 128 == b.val % 2) := by
  have ha : ∀ a : Fin 256, IntOp.shrsi .vector (BitVec.ofNat 32 a.val) 7#32 = BitVec.ofNat 32 (a.val / 128) := by decide +kernel
  have hb : ∀ b : Fin 256, IntOp.andi (BitVec.ofNat 32 b.val) 1#32 = BitVec.ofNat 32 (b.val % 2) := by decide +kernel
  have hc : ∀ x y : Fin 2, IntOp.cmpi .eq (BitVec.ofNat 32 x.val) (BitVec.ofNat 32 y.val) = BitVec.ofBool (x.val == y.val) := by
    decide +kernel
  intro a b
  rw [ha, hb]
  exact hc ⟨a.val / 128, by omega⟩ ⟨b.val % 2, by omega⟩

/-- The parity of the common bits of two numbers below 128 is odd exactly where the matrix has a minus. -/
theorem odd_common_bits : ∀ i j : Fin 128,
    IntOp.cmpi .eq (IntOp.andi (IntOp.ctpop (IntOp.andi (BitVec.ofNat 32 i.val) (BitVec.ofNat 32 j.val))) 1#32) 1#32
      = BitVec.ofBool (minus 7 i.val j.val) := by
  have hp : ∀ w : Fin 128, IntOp.cmpi .eq (IntOp.andi (IntOp.ctpop (BitVec.ofNat 32 w.val)) 1#32) 1#32
      = BitVec.ofBool (minus 7 w.val w.val) := by decide +kernel
  have hm : ∀ i j : Fin 128, minus 7 (i.val &&& j.val) (i.val &&& j.val) = minus 7 i.val j.val := by decide +kernel
  intro i j
  have hw : IntOp.andi (BitVec.ofNat 32 i.val) (BitVec.ofNat 32 j.val) = BitVec.ofNat 32 (i.val &&& j.val) := BitVec.ofNat_and.symm
  rw [hw, ← hm]
  exact hp ⟨i.val &&& j.val, lt_of_le_of_lt Nat.and_le_left i.isLt⟩

/-- The signed matrix at row `a` and column `b`: a sixteenth with the matrix's sign where `a` and `b` are of the same half,
    and zero elsewhere. -/
theorem signed_apply (a b : Fin 256) :
    (k0_pay2 (F := Ideal) (ix2 a b) : EReal)
      = ((if a.val / 128 = b.val % 2 then sign (a.val % 128) (b.val / 2) * (1 / 16) else 0 : ℝ) : EReal) := by
  have e : (k0_pay2 (F := Ideal) (ix2 a b) : EReal)
      = Scalar.select (IntOp.cmpi .eq (IntOp.shrsi .vector (BitVec.ofNat 32 (0 * 256 + a.val)) 7#32) (IntOp.andi (BitVec.ofNat 32 (0 * 256 + b.val)) 1#32))
          (Scalar.select (IntOp.cmpi .eq (IntOp.andi (IntOp.ctpop (IntOp.andi (IntOp.andi (BitVec.ofNat 32 (0 * 256 + a.val)) 127#32)
              (IntOp.shrsi .vector (BitVec.ofNat 32 (0 * 256 + b.val)) 1#32))) 1#32) 1#32)
            (Ideal.ofBits .f32 0xBD800000#32) (Ideal.ofBits .f32 0x3D800000#32))
          (Ideal.ofBits .f32 0x00000000#32) := rfl
  rw [e, Nat.zero_mul, Nat.zero_add, Nat.zero_add, same_half, row_word, column_word,
    odd_common_bits ⟨a.val % 128, by omega⟩ ⟨b.val / 2, by omega⟩, ofBits_sixteenth, ofBits_minus_sixteenth, Ideal.ofBits_zero_f32]
  unfold sign
  by_cases h : a.val / 128 = b.val % 2
  · rw [if_pos h, h, beq_self_eq_true]
    cases hm : minus 7 (a.val % 128) (b.val / 2)
    · simp [Scalar.select]
    · simp [Scalar.select]
      norm_num
  · rw [if_neg h, beq_eq_false_iff_ne.mpr h, EReal.coe_zero]
    exact if_neg (by decide)

/-- The rotated columns of group `g` at row `r` and column `k`: the rotated activation of half `k % 2`, column `k / 2`. -/
theorem rotation_apply (X : Vec Ideal S256x4096 .bf16) (g : Fin 16) (r k : Fin 256) :
    (rotation X g (ix2 r k) : EReal)
      = rotated (fun r c => X (ix2 r c)) r ⟨16 * (k.val % 2) + g.val, by omega⟩ (k.val / 2) := by
  have hx : ∀ (b : Fin 32) (i : Fin 128), actCols X b (ix2 r i) = X (ix2 r ⟨128 * b.val + i.val, by omega⟩) := fun b i =>
    View.ld_unit_apply_of _ _ _ _ _ _ fun a => by
      fin_cases a
      · exact (Nat.zero_add _).symm
      · rfl
  have hgain : (k0_pay3 (F := Ideal) : EReal) = ((gain * 16 : ℝ) : EReal) := by
    show Ideal.ofBits .f32 0x3DB504F3#32 * Ideal.ofBits .f32 0x41800000#32 = _
    rw [ofBits_gain, ofBits_sixteen, EReal.coe_mul]
  unfold rotation k0_pay4
  rw [shapeCast_self, truncf_apply, mulf_apply, broadcast_apply, hgain, shapeCast_self, shapeCast_self]
  refine (congrArg (· * ((gain * 16 : ℝ) : EReal))
    (Ideal.matmul_plain_apply (M := 256) (K := 256) (N := 256) (φ₁ := .bf16) (φ₂ := .bf16) none _ _ _ r k)).trans ?_
  rw [constant_apply, Ideal.ofBits_zero_f32, zero_add, sum_mul_coe _ _ _ (mul_nonneg gain_nonneg (by norm_num))]
  have hl : ∀ i : Fin 128, concatenate S256x256 1 [⟨S256x128, actCols X ⟨g.val, by omega⟩⟩, ⟨S256x128, actCols X ⟨16 + g.val, by omega⟩⟩]
      concatenates_S256x128_S256x128_S256x256_d1 (ix2 r (Fin.castAdd 128 i)) = X (ix2 r ⟨128 * g.val + i.val, by omega⟩) := fun i => by
    refine (concatenate_pair_apply_left (t := S256x256) (s₁ := S256x128) (s₂ := S256x128) 1 _ _ _ _ rfl (ix2 r i) fun a => ?_).trans (hx _ i)
    fin_cases a <;> rfl
  have hh : ∀ i : Fin 128, concatenate S256x256 1 [⟨S256x128, actCols X ⟨g.val, by omega⟩⟩, ⟨S256x128, actCols X ⟨16 + g.val, by omega⟩⟩]
      concatenates_S256x128_S256x128_S256x256_d1 (ix2 r (Fin.natAdd 128 i)) = X (ix2 r ⟨128 * (16 + g.val) + i.val, by omega⟩) := fun i => by
    refine (concatenate_pair_apply_right (t := S256x256) (s₁ := S256x128) (s₂ := S256x128) 1 _ _ _ _ rfl rfl (ix2 r i) (fun a ha => ?_) (Nat.add_comm _ _)).trans (hx _ i)
    fin_cases a
    · rfl
    · exact absurd rfl ha
  have hw : ∀ (x : EReal) (w : ℝ), x * ((w * (1 / 16) : ℝ) : EReal) * ((gain * 16 : ℝ) : EReal) = x * ((w * gain : ℝ) : EReal) := fun x w => by
    rw [mul_assoc, ← EReal.coe_mul]
    congr 2
    ring
  have hz : ∀ x : EReal, x * ((0 : ℝ) : EReal) * ((gain * 16 : ℝ) : EReal) = 0 := fun x => by
    rw [EReal.coe_zero, mul_zero, zero_mul]
  refine (Fin.sum_univ_add (a := 128) (b := 128) _).trans ?_
  simp only [hl, hh, signed_apply, Fin.val_castAdd, Fin.val_natAdd]
  have d0 : ∀ i : Fin 128, i.val / 128 = 0 := fun i => by omega
  have d1 : ∀ i : Fin 128, (128 + i.val) / 128 = 1 := fun i => by omega
  have m0 : ∀ i : Fin 128, i.val % 128 = i.val := fun i => by omega
  have m1 : ∀ i : Fin 128, (128 + i.val) % 128 = i.val := fun i => by omega
  simp only [d0, d1, m0, m1]
  unfold rotated
  rcases Nat.mod_two_eq_zero_or_one k.val with hk | hk
  · simp only [hk, if_pos, if_neg one_ne_zero, hw, hz, Finset.sum_const_zero, add_zero, Nat.mul_zero, Nat.zero_add]
  · simp only [hk, if_pos, if_neg zero_ne_one, hw, hz, Finset.sum_const_zero, zero_add, Nat.mul_one]

end Cert.Proof

end
-- ==== Proof.Hadamard.lean ====
/-
  The Hadamard matrix of the reference, built by seven Kronecker products with the two-by-two matrix: its entries in closed form.
-/
module

public import proofs.«01_k».proof.Proof.Gen.ReferenceIdeal
public import proofs.«01_k».proof.Proof.Constants
public import Idealize.ShloMosaic.Lib.IdealHost
public import Idealize.ShloMosaic.Lib.Pipeline.Value

@[expose] public section

noncomputable section

namespace Cert.Proof

open Cert.ReferenceIdeal Cert.ReferenceIdeal.Gen Idealize.ShloMosaic Idealize.ShloMosaic.TcCoe Idealize.ShloMosaic.ValueIdx

variable {F : FTy → Type} [FloatOps F]

/-- The two-by-two Hadamard matrix, as an array with two more axes of extent one. -/
def base : FVec F S1x2x1x2 .f32 :=
  broadcastInDim S1x2x1x2 ![1, 3] bcast_S2x2_S1x2x1x2_1_3 (fun i => FloatOps.ofBits .f32 (lit0 (S2x2.rowMajor i)))

/-- The matrix of size one. -/
def had1 : FVec F S1x1 .f32 := broadcastInDim S1x1 ![] bcast_S_S1x1 (constant S_ .f32 0x3F800000#32)

/-- The Kronecker product of the matrix of size 1 with the two-by-two matrix. -/
def had2 : FVec F S2x2 .f32 :=
  shapeCast _ (mulf (broadcastInDim S1x2x1x2 ![0, 1, 2, 3] bcast_S1x1x1x1_S1x2x1x2_0_1_2_3
    (broadcastInDim S1x1x1x1 ![0, 2] bcast_S1x1_S1x1x1x1_0_2 had1)) base) shapeCasts_S1x2x1x2_S2x2

/-- The Kronecker product of the matrix of size 2 with the two-by-two matrix. -/
def had4 : FVec F S4x4 .f32 :=
  shapeCast _ (mulf (broadcastInDim S2x2x2x2 ![0, 1, 2, 3] bcast_S2x1x2x1_S2x2x2x2_0_1_2_3
    (broadcastInDim S2x1x2x1 ![0, 2] bcast_S2x2_S2x1x2x1_0_2 had2))
    (broadcastInDim S2x2x2x2 ![0, 1, 2, 3] bcast_S1x2x1x2_S2x2x2x2_0_1_2_3 base)) shapeCasts_S2x2x2x2_S4x4

/-- The Kronecker product of the matrix of size 4 with the two-by-two matrix. -/
def had8 : FVec F S8x8 .f32 :=
  shapeCast _ (mulf (broadcastInDim S4x2x4x2 ![0, 1, 2, 3] bcast_S4x1x4x1_S4x2x4x2_0_1_2_3
    (broadcastInDim S4x1x4x1 ![0, 2] bcast_S4x4_S4x1x4x1_0_2 had4))
    (broadcastInDim S4x2x4x2 ![0, 1, 2, 3] bcast_S1x2x1x2_S4x2x4x2_0_1_2_3 base)) shapeCasts_S4x2x4x2_S8x8

/-- The Kronecker product of the matrix of size 8 with the two-by-two matrix. -/
def had16 : FVec F S16x16 .f32 :=
  shapeCast _ (mulf (broadcastInDim S8x2x8x2 ![0, 1, 2, 3] bcast_S8x1x8x1_S8x2x8x2_0_1_2_3
    (broadcastInDim S8x1x8x1 ![0, 2] bcast_S8x8_S8x1x8x1_0_2 had8))
    (broadcastInDim S8x2x8x2 ![0, 1, 2, 3] bcast_S1x2x1x2_S8x2x8x2_0_1_2_3 base)) shapeCasts_S8x2x8x2_S16x16

/-- The Kronecker product of the matrix of size 16 with the two-by-two matrix. -/
def had32 : FVec F S32x32 .f32 :=
  shapeCast _ (mulf (broadcastInDim S16x2x16x2 ![0, 1, 2, 3] bcast_S16x1x16x1_S16x2x16x2_0_1_2_3
    (broadcastInDim S16x1x16x1 ![0, 2] bcast_S16x16_S16x1x16x1_0_2 had16))
    (broadcastInDim S16x2x16x2 ![0, 1, 2, 3] bcast_S1x2x1x2_S16x2x16x2_0_1_2_3 base)) shapeCasts_S16x2x16x2_S32x32

/-- The Kronecker product of the matrix of size 32 with the two-by-two matrix. -/
def had64 : FVec F S64x64 .f32 :=
  shapeCast _ (mulf (broadcastInDim S32x2x32x2 ![0, 1, 2, 3] bcast_S32x1x32x1_S32x2x32x2_0_1_2_3
    (broadcastInDim S32x1x32x1 ![0, 2] bcast_S32x32_S32x1x32x1_0_2 had32))
    (broadcastInDim S32x2x32x2 ![0, 1, 2, 3] bcast_S1x2x1x2_S32x2x32x2_0_1_2_3 base)) shapeCasts_S32x2x32x2_S64x64

/-- The Hadamard matrix of size 128, entries plus or minus one. -/
def had128 : FVec F S128x128 .f32 :=
  shapeCast _ (mulf (broadcastInDim S64x2x64x2 ![0, 1, 2, 3] bcast_S64x1x64x1_S64x2x64x2_0_1_2_3
    (broadcastInDim S64x1x64x1 ![0, 2] bcast_S64x64_S64x1x64x1_0_2 had64))
    (broadcastInDim S64x2x64x2 ![0, 1, 2, 3] bcast_S1x2x1x2_S64x2x64x2_0_1_2_3 base)) shapeCasts_S64x2x64x2_S128x128

/-- The scaled Hadamard matrix. -/
def scaled : FVec F S128x128 .f32 :=
  mulf had128 (broadcastInDim S128x128 ![] bcast_S_S128x128 (constant S_ .f32 0x3DB504F3#32))

/-- The entry of the two-by-two matrix at `(s, t)`. -/
theorem base_apply (s t : Fin 2) :
    (base (F := Ideal) (ix4 (0 : Fin 1) s (0 : Fin 1) t) : EReal) = ((if s.val % 2 == 1 && t.val % 2 == 1 then -1 else 1 : ℝ) : EReal) := by
  have e : (base (F := Ideal) (ix4 (0 : Fin 1) s (0 : Fin 1) t) : EReal) = Ideal.ofBits .f32 (lit0 (S2x2.rowMajor (ix2 s t))) :=
    broadcastInDim_apply _ _ _ _ (ix2 s t) fun a => by fin_cases a <;> rfl
  have hr : S2x2.rowMajor (ix2 s t) = (⟨s.val * 2 + t.val, by omega⟩ : Fin 4) := Fin.ext (Shape.rowMajor_val_two _)
  rw [e, hr]
  fin_cases s <;> fin_cases t
  · exact ofBits_one
  · exact ofBits_one
  · exact ofBits_one
  · exact ofBits_minus_one

/-- The two-by-two matrix repeated over any outer extent. -/
theorem tiled_apply (n : ℕ) (h : S1x2x1x2.BroadcastsInDim ⟨4, ![n, 2, n, 2]⟩ ![0, 1, 2, 3]) (i j : Fin n) (s t : Fin 2) :
    (broadcastInDim ⟨4, ![n, 2, n, 2]⟩ ![0, 1, 2, 3] h (base (F := Ideal)) (ix4 i s j t) : EReal)
      = ((if s.val % 2 == 1 && t.val % 2 == 1 then -1 else 1 : ℝ) : EReal) :=
  (broadcastInDim_apply _ _ _ _ (ix4 (0 : Fin 1) s (0 : Fin 1) t) fun a => by fin_cases a <;> rfl).trans (base_apply s t)

/-- One Kronecker product: if the matrix of size `n = 2 ^ d` has the sign of the common bits, so has the matrix of size `2 n`. -/
theorem kron_apply (d n m : ℕ) (hm : m = 2 * n) (v : FVec Ideal ⟨2, ![n, n]⟩ .f32) (b : FVec Ideal ⟨4, ![n, 2, n, 2]⟩ .f32)
    (h₁ : (⟨2, ![n, n]⟩ : Shape).BroadcastsInDim ⟨4, ![n, 1, n, 1]⟩ ![0, 2])
    (h₂ : (⟨4, ![n, 1, n, 1]⟩ : Shape).BroadcastsInDim ⟨4, ![n, 2, n, 2]⟩ ![0, 1, 2, 3])
    (h₃ : (⟨4, ![n, 2, n, 2]⟩ : Shape).ShapeCasts ⟨2, ![m, m]⟩)
    (hb : ∀ (i j : Fin n) (s t : Fin 2), (b (ix4 i s j t) : EReal) = ((if s.val % 2 == 1 && t.val % 2 == 1 then -1 else 1 : ℝ) : EReal))
    (hv : ∀ i j : Fin n, (v (ix2 i j) : EReal) = ((if minus d i.val j.val then -1 else 1 : ℝ) : EReal)) (i j : Fin m) :
    (shapeCast ⟨2, ![m, m]⟩ (mulf (broadcastInDim ⟨4, ![n, 2, n, 2]⟩ ![0, 1, 2, 3] h₂
      (broadcastInDim ⟨4, ![n, 1, n, 1]⟩ ![0, 2] h₁ v)) b) h₃ (ix2 i j) : EReal)
      = ((if minus (d + 1) i.val j.val then -1 else 1 : ℝ) : EReal) := by
  let i' : Fin n := ⟨i.val / 2, by omega⟩
  let j' : Fin n := ⟨j.val / 2, by omega⟩
  let s : Fin 2 := ⟨i.val % 2, by omega⟩
  let t : Fin 2 := ⟨j.val % 2, by omega⟩
  refine (shapeCast_apply _ _ _ (ix4 i' s j' t) ?_).trans ?_
  · rw [Shape.rowMajor_val_four, Shape.rowMajor_val_two]
    show ((i.val / 2 * 2 + i.val % 2) * n + j.val / 2) * 2 + j.val % 2 = i.val * m + j.val
    have hd : i.val * m = i.val * n * 2 := (congrArg (i.val * ·) hm).trans (by rw [Nat.mul_comm 2 n, ← Nat.mul_assoc])
    rw [Nat.div_add_mod', hd, Nat.add_mul, Nat.add_assoc, Nat.div_add_mod']
  rw [mulf_apply, hb]
  have e : (broadcastInDim ⟨4, ![n, 2, n, 2]⟩ ![0, 1, 2, 3] h₂ (broadcastInDim ⟨4, ![n, 1, n, 1]⟩ ![0, 2] h₁ v) (ix4 i' s j' t) : EReal)
      = v (ix2 i' j') := by
    have hi : i'.val = if n = 1 then 0 else i'.val := by split <;> omega
    have hj : j'.val = if n = 1 then 0 else j'.val := by split <;> omega
    refine (broadcastInDim_apply _ _ _ _ (ix4 i' (0 : Fin 1) j' (0 : Fin 1)) fun a => ?_).trans
      (broadcastInDim_apply _ _ _ _ (ix2 i' j') fun a => ?_)
    · fin_cases a
      · exact hi
      · rfl
      · exact hj
      · rfl
    · fin_cases a
      · exact hi
      · exact hj
  rw [e, hv]
  show ((if minus d (i.val / 2) (j.val / 2) then -1 else 1 : ℝ) : EReal)
      * ((if i.val % 2 % 2 == 1 && j.val % 2 % 2 == 1 then -1 else 1 : ℝ) : EReal)
    = ((if minus d (i.val / 2) (j.val / 2) ^^ (i.val % 2 == 1 && j.val % 2 == 1) then -1 else 1 : ℝ) : EReal)
  rw [Nat.mod_mod, Nat.mod_mod, ← EReal.coe_mul]
  cases minus d (i.val / 2) (j.val / 2) <;> cases (i.val % 2 == 1 && j.val % 2 == 1) <;> simp

/-- The entry of the Hadamard matrix of size 128: the sign of the common bits. -/
theorem had128_apply (i j : Fin 128) : (had128 (F := Ideal) (ix2 i j) : EReal) = ((sign i.val j.val : ℝ) : EReal) :=
  kron_apply 6 64 128 rfl had64 _ _ _ _ (tiled_apply 64 _)
    (kron_apply 5 32 64 rfl had32 _ _ _ _ (tiled_apply 32 _)
    (kron_apply 4 16 32 rfl had16 _ _ _ _ (tiled_apply 16 _)
    (kron_apply 3 8 16 rfl had8 _ _ _ _ (tiled_apply 8 _)
    (kron_apply 2 4 8 rfl had4 _ _ _ _ (tiled_apply 4 _)
    (kron_apply 1 2 4 rfl had2 _ _ _ _ (tiled_apply 2 _)
    (kron_apply 0 1 2 rfl had1 base _ _ _
      (fun a b s t => by
        have ha : a = 0 := Subsingleton.elim _ _
        have hb : b = 0 := Subsingleton.elim _ _
        rw [ha, hb]
        exact base_apply s t)
      (fun _ _ => ofBits_one))))))) i j

/-- The entry of the scaled Hadamard matrix. -/
theorem scaled_apply (i j : Fin 128) : (scaled (F := Ideal) (ix2 i j) : EReal) = ((sign i.val j.val * gain : ℝ) : EReal) := by
  unfold scaled
  rw [mulf_apply, had128_apply, EReal.coe_mul, ← ofBits_gain]
  rfl

end Cert.Proof

end
-- ==== Proof.RefValue.lean ====
/-
  What the reference computes: its rotated activations, its dequantized weights and its result, each in closed form.
-/
module

public import proofs.«01_k».proof.Proof.Hadamard
public import Idealize.ShloMosaic.Lib.TwoAxisContraction
public import Idealize.ShloMosaic.Lib.KernelVsHost

@[expose] public section

noncomputable section

namespace Cert.Proof

open Cert.ReferenceIdeal Cert.ReferenceIdeal.Gen Idealize.ShloMosaic Idealize.ShloMosaic.TcCoe Idealize.ShloMosaic.ValueIdx

section Terms

variable {F : FTy → Type} [FloatOps F]

/-- The reference's rotated activations, in two halves. -/
def refRotated (X : Vec F S1x256x4096 .bf16) : FVec F S256x2x2048 .bf16 :=
  shapeCast _ (truncf .bf16 (Host.dotGeneral dot_S256x32x128_S128x128_S256x32x128_2_0_01_1_n_n (some .fp32)
    (shapeCast _ (extf .f32 X bitsLt_bf16_f32) shapeCasts_S1x256x4096_S256x32x128) scaled) bitsLt_bf16_f32) shapeCasts_S256x32x128_S256x2x2048

/-- The reference's signed codes: each packed byte's low nibble in the first half, its high nibble in the second. -/
def refCodes (p : Vec F S2048x14336 .i8) : IVec S2x2048x14336 32 :=
  Host.shrsi (Host.shli
      (broadcastInDim S2x2048x14336 ![0, 1, 2] bcast_S1x2048x14336_S2x2048x14336_0_1_2
        (broadcastInDim S1x2048x14336 ![1, 2] bcast_S2048x14336_S1x2048x14336_1_2 (extui 32 p natLt_8_32)))
      (broadcastInDim S2x2048x14336 ![0, 1, 2] bcast_S2x1x1_S2x2048x14336_0_1_2
        (broadcastInDim S2x1x1 ![0] bcast_S2_S2x1x1_0 (fun i => lit1 (S2.rowMajor i)))))
    (broadcastInDim S2x2048x14336 ![] bcast_S_S2x2048x14336 (constantI S_ 32 28#32))

/-- The reference's weights: codes times scales. -/
def refWeights (p : Vec F S2048x14336 .i8) (s : Vec F S32x14336 .bf16) : FVec F S2x2048x14336 .bf16 :=
  shapeCast _ (mulf (shapeCast _ (sitofp .bf16 (refCodes (F := F) p)) shapeCasts_S2x2048x14336_S2x16x128x14336)
    (broadcastInDim S2x16x128x14336 ![0, 1, 2, 3] bcast_S2x16x1x14336_S2x16x128x14336_0_1_2_3
      (shapeCast _ s shapeCasts_S32x14336_S2x16x1x14336))) shapeCasts_S2x16x128x14336_S2x2048x14336

/-- The reference's result. -/
def refResult (X : Vec F S1x256x4096 .bf16) (p : Vec F S2048x14336 .i8) (s : Vec F S32x14336 .bf16) : FVec F S256x14336 .bf16 :=
  truncf .bf16 (Host.dotGeneral dot_S256x2x2048_S2x2048x14336_S256x14336_21_10_0_2_n_n none (refRotated X) (refWeights p s)) bitsLt_bf16_f32

end Terms

/-- The rotated activation at row `r`, half `t`, column `k` of the half. -/
theorem refRotated_apply (X : Vec Ideal S1x256x4096 .bf16) (r : Fin 256) (t : Fin 2) (k : Fin 2048) :
    (refRotated X (ix3 r t k) : EReal)
      = rotated (fun r c => X (ix3 (0 : Fin 1) r c)) r ⟨16 * t.val + k.val / 128, by omega⟩ (k.val % 128) := by
  unfold refRotated
  refine (shapeCast_apply _ _ _ (ix3 r (⟨16 * t.val + k.val / 128, by omega⟩ : Fin 32) (⟨k.val % 128, by omega⟩ : Fin 128)) ?_).trans ?_
  · rw [Shape.rowMajor_val_three, Shape.rowMajor_val_three]
    show (r.val * 32 + (16 * t.val + k.val / 128)) * 128 + k.val % 128 = (r.val * 2 + t.val) * 2048 + k.val
    omega
  rw [truncf_apply]
  refine (Ideal.dotGeneral_apply _ _ _ _ _ _).trans ?_
  let D := dot_S256x32x128_S128x128_S256x32x128_2_0_01_1_n_n
  refine (Equiv.sum_comp (contrEquiv1 D 128 rfl rfl).symm _).symm.trans ?_
  unfold rotated
  refine Finset.sum_congr rfl fun i _ => ?_
  have hl : D.lhsIdx (ix3 r (⟨16 * t.val + k.val / 128, by omega⟩ : Fin 32) (⟨k.val % 128, by omega⟩ : Fin 128)) ((contrEquiv1 D 128 rfl rfl).symm i)
      = ix3 r (⟨16 * t.val + k.val / 128, by omega⟩ : Fin 32) i := funext fun a => Fin.ext (by
    fin_cases a
    · rfl
    · rfl
    · exact contrEquiv1_symm_val D 128 rfl rfl i)
  have hr : D.rhsIdx (ix3 r (⟨16 * t.val + k.val / 128, by omega⟩ : Fin 32) (⟨k.val % 128, by omega⟩ : Fin 128)) ((contrEquiv1 D 128 rfl rfl).symm i)
      = ix2 i (⟨k.val % 128, by omega⟩ : Fin 128) := funext fun a => Fin.ext (by
    fin_cases a
    · exact contrEquiv1_symm_val D 128 rfl rfl i
    · rfl)
  refine congrArg₂ (fun a b : EReal => a * b) ?_ ((congrArg scaled hr).trans (scaled_apply _ _))
  refine (congrArg _ hl).trans ((shapeCast_apply _ _ _ (ix3 (0 : Fin 1) r (⟨128 * (16 * t.val + k.val / 128) + i.val, by omega⟩ : Fin 4096)) ?_).trans rfl)
  rw [Shape.rowMajor_val_three, Shape.rowMajor_val_three]
  show (0 * 256 + r.val) * 4096 + (128 * (16 * t.val + k.val / 128) + i.val) = (r.val * 32 + (16 * t.val + k.val / 128)) * 128 + i.val
  omega

/-- Shifting a byte left by 28 in a 32-bit word and back by 28, keeping the sign, gives its signed low nibble. -/
theorem low_nibble : ∀ b : BitVec 8, (IntOp.shrsi .vector (IntOp.shli .vector (b.setWidth 32) 28#32) 28#32).toInt = nibble b 0 := by
  decide +kernel

/-- Shifting a byte left by 24 in a 32-bit word and back by 28, keeping the sign, gives its signed high nibble. -/
theorem high_nibble : ∀ b : BitVec 8, (IntOp.shrsi .vector (IntOp.shli .vector (b.setWidth 32) 24#32) 28#32).toInt = nibble b 1 := by
  decide +kernel

/-- The code of half `t`, row `k`, column `n`. -/
theorem refCodes_apply (p : Vec Ideal S2048x14336 .i8) (t : Fin 2) (k : Fin 2048) (n : Fin 14336) :
    (refCodes (F := Ideal) p (ix3 t k n)).toInt = nibble (p (ix2 k n)) t.val := by
  have hA : broadcastInDim S2x2048x14336 ![0, 1, 2] bcast_S1x2048x14336_S2x2048x14336_0_1_2
      (broadcastInDim S1x2048x14336 ![1, 2] bcast_S2048x14336_S1x2048x14336_1_2 (extui 32 p natLt_8_32)) (ix3 t k n)
      = (p (ix2 k n)).setWidth 32 :=
    (broadcastInDim_apply _ _ _ _ (ix3 (0 : Fin 1) k n) fun a => by fin_cases a <;> rfl).trans
      (broadcastInDim_apply _ _ _ _ (ix2 k n) fun a => by fin_cases a <;> rfl)
  have hB : broadcastInDim S2x2048x14336 ![0, 1, 2] bcast_S2x1x1_S2x2048x14336_0_1_2
      (broadcastInDim S2x1x1 ![0] bcast_S2_S2x1x1_0 (fun i => lit1 (S2.rowMajor i))) (ix3 t k n) = lit1 t :=
    ((broadcastInDim_apply _ _ _ _ (ix3 t (0 : Fin 1) (0 : Fin 1)) fun a => by fin_cases a <;> rfl).trans
      (broadcastInDim_apply _ _ _ _ (ix1 t) fun a => by fin_cases a; rfl)).trans
      (congrArg lit1 (Fin.ext (Shape.rowMajor_val_one _)))
  unfold refCodes
  rw [hostShrsi_eq_shrsi, hostShli_eq_shli]
  show (IntOp.shrsi .vector (IntOp.shli .vector (broadcastInDim S2x2048x14336 _ _ _ (ix3 t k n)) (broadcastInDim S2x2048x14336 _ _ _ (ix3 t k n))) 28#32).toInt = _
  rw [hA, hB]
  fin_cases t
  · exact low_nibble _
  · exact high_nibble _

/-- The weight of half `t`, row `k`, column `n`: the code times the scale of the row's group. -/
theorem refWeights_apply (p : Vec Ideal S2048x14336 .i8) (s : Vec Ideal S32x14336 .bf16) (t : Fin 2) (k : Fin 2048) (n : Fin 14336) :
    (refWeights p s (ix3 t k n) : EReal)
      = ((nibble (p (ix2 k n)) t.val : ℝ) : EReal) * s (ix2 ⟨16 * t.val + k.val / 128, by omega⟩ n) := by
  unfold refWeights
  refine (shapeCast_apply _ _ _ (ix4 t (⟨k.val / 128, by omega⟩ : Fin 16) (⟨k.val % 128, by omega⟩ : Fin 128) n) ?_).trans ?_
  · rw [Shape.rowMajor_val_four, Shape.rowMajor_val_three]
    show ((t.val * 16 + k.val / 128) * 128 + k.val % 128) * 14336 + n.val = (t.val * 2048 + k.val) * 14336 + n.val
    omega
  rw [mulf_apply]
  refine congrArg₂ (fun a b : EReal => a * b) ?_ ?_
  · refine (shapeCast_apply _ _ _ (ix3 t k n) ?_).trans ?_
    · rw [Shape.rowMajor_val_four, Shape.rowMajor_val_three]
      show (t.val * 2048 + k.val) * 14336 + n.val = ((t.val * 16 + k.val / 128) * 128 + k.val % 128) * 14336 + n.val
      omega
    · rw [← refCodes_apply]
      rfl
  · refine (broadcastInDim_apply _ _ _ _ (ix4 t (⟨k.val / 128, by omega⟩ : Fin 16) (0 : Fin 1) n) fun a => by fin_cases a <;> rfl).trans ?_
    refine shapeCast_apply _ _ _ (ix2 (⟨16 * t.val + k.val / 128, by omega⟩ : Fin 32) n) ?_
    rw [Shape.rowMajor_val_four, Shape.rowMajor_val_two]
    show (16 * t.val + k.val / 128) * 14336 + n.val = ((t.val * 16 + k.val / 128) * 1 + 0) * 14336 + n.val
    omega

/-- The reference's result at row `r` and column `n` is the linear layer over that column. -/
theorem refResult_apply (X : Vec Ideal S1x256x4096 .bf16) (p : Vec Ideal S2048x14336 .i8) (s : Vec Ideal S32x14336 .bf16)
    (r : Fin 256) (n : Fin 14336) :
    (refResult X p s (ix2 r n) : EReal)
      = linear (fun r c => X (ix3 (0 : Fin 1) r c)) (fun k => p (ix2 k n)) (fun g => s (ix2 g n)) r := by
  unfold refResult
  rw [truncf_apply]
  refine (Ideal.dotGeneral_apply _ none .single _ _ _).trans ?_
  let D := dot_S256x2x2048_S2x2048x14336_S256x14336_21_10_0_2_n_n
  refine (sum_contr2 D 2048 2 rfl rfl rfl _).trans (Finset.sum_comm.trans ?_)
  unfold linear
  refine Finset.sum_congr rfl fun t _ => Finset.sum_congr rfl fun k _ => ?_
  have hl : D.lhsIdx (ix2 r n) ((contrEquiv2 D 2048 2 rfl rfl rfl).symm (k, t)) = ix3 r t k := funext fun a => Fin.ext (by
    fin_cases a
    · rfl
    · exact contrEquiv2_symm_val1 D 2048 2 rfl rfl rfl (k, t)
    · exact contrEquiv2_symm_val0 D 2048 2 rfl rfl rfl (k, t))
  have hr : D.rhsIdx (ix2 r n) ((contrEquiv2 D 2048 2 rfl rfl rfl).symm (k, t)) = ix3 t k n := funext fun a => Fin.ext (by
    fin_cases a
    · exact contrEquiv2_symm_val1 D 2048 2 rfl rfl rfl (k, t)
    · exact contrEquiv2_symm_val0 D 2048 2 rfl rfl rfl (k, t)
    · rfl)
  exact congrArg₂ (fun a b : EReal => a * b) ((congrArg (refRotated X) hl).trans (refRotated_apply X r t k))
    ((congrArg (refWeights p s) hr).trans (refWeights_apply p s t k n))

end Cert.Proof

end
-- ==== Proof.Equation.lean ====
/-
  The equation: at every row and column the array the kernel leaves holds the reference's result.
-/
module

public import proofs.«01_k».proof.Proof.Points
public import proofs.«01_k».proof.Proof.Weights
public import proofs.«01_k».proof.Proof.Rotation
public import proofs.«01_k».proof.Proof.RefValue

@[expose] public section

noncomputable section

namespace Cert.Proof

open Idealize.ShloMosaic Idealize.ShloMosaic.TcCoe Idealize.ShloMosaic.ValueIdx

/-- A group of sixteen and one of its 256 interleaved rows are a half and one of its 2048 rows: row `2 i + t` of group `g` is row
    `128 g + i` of half `t`. -/
def rows : Fin 16 × Fin 256 ≃ Fin 2 × Fin 2048 where
  toFun q := (⟨q.2.val % 2, by omega⟩, ⟨128 * q.1.val + q.2.val / 2, by omega⟩)
  invFun q := (⟨q.2.val / 128, by omega⟩, ⟨2 * (q.2.val % 128) + q.1.val, by omega⟩)
  left_inv q := Prod.ext (Fin.ext (by dsimp only; omega)) (Fin.ext (by dsimp only; omega))
  right_inv q := Prod.ext (Fin.ext (by dsimp only; omega)) (Fin.ext (by dsimp only; omega))

/-- The linear layer summed group by group, over the interleaved rows of each. -/
theorem linear_eq_groups (X : Fin 256 → Fin 4096 → EReal) (p : Fin 2048 → BitVec 8) (s : Fin 32 → EReal) (r : Fin 256) :
    (∑ g : Fin 16, ∑ k : Fin 256, rotated X r ⟨16 * (k.val % 2) + g.val, by omega⟩ (k.val / 2) *
      (((nibble (p ⟨128 * g.val + k.val / 2, by omega⟩) (k.val % 2) : ℝ) : EReal) * s ⟨16 * (k.val % 2) + g.val, by omega⟩))
      = linear X p s r := by
  unfold linear
  rw [← Fintype.sum_prod_type', ← Fintype.sum_prod_type']
  refine Fintype.sum_equiv rows _ _ fun q => ?_
  have h₁ : (128 * q.1.val + q.2.val / 2) / 128 = q.1.val := by omega
  have h₂ : (128 * q.1.val + q.2.val / 2) % 128 = q.2.val / 2 := by omega
  show _ = rotated X r ⟨16 * (q.2.val % 2) + (128 * q.1.val + q.2.val / 2) / 128, _⟩ ((128 * q.1.val + q.2.val / 2) % 128) *
    (((nibble (p ⟨128 * q.1.val + q.2.val / 2, _⟩) (q.2.val % 2) : ℝ) : EReal) * s ⟨16 * (q.2.val % 2) + (128 * q.1.val + q.2.val / 2) / 128, _⟩)
  simp only [h₁, h₂]

section Arrays

open Cert.KernelIdeal

/-- Row `r`, column `n` of column block `t` of the array the kernel leaves is the reference's result there. -/
theorem array_eq_at (m : (ℓ : Loc nD τ sig) → Buf (Elt Ideal) ℓ) (c : Dev nD) (r : Fin 256) (t : Fin 14) (n : Fin 1024) :
    Cert.KernelIdeal.Value.G3 m c (ix2 r (column t n) : S256x14336.Idx)
      = refResult (m ((c.tc : Thread nD τ).loc main_arg0)) (m ((c.tc : Thread nD τ).loc main_arg1)) (m ((c.tc : Thread nD τ).loc main_arg2))
          (ix2 r (column t n)) := by
  refine (array_at m c r t n).trans ((blockResult_apply _ _ _ r n).trans (Eq.trans ?_ (refResult_apply _ _ _ r (column t n)).symm))
  refine Eq.trans ?_ (linear_eq_groups _ _ _ r)
  refine Finset.sum_congr rfl fun g _ => Finset.sum_congr rfl fun k _ => ?_
  rw [rotation_apply]
  have hX : (fun (r : Fin 256) (k : Fin 4096) => (acts m c (ix2 r k) : EReal)) = fun r k => m ((c.tc : Thread nD τ).loc main_arg0) (ix3 (0 : Fin 1) r k) :=
    funext fun r => funext fun k => shapeCast_apply _ _ _ (ix3 (0 : Fin 1) r k) (by
      rw [Shape.rowMajor_val_three, Shape.rowMajor_val_two]
      show (0 * 256 + r.val) * 4096 + k.val = r.val * 4096 + k.val
      omega)
  rw [hX]
  rfl

/-- The array the kernel leaves is the reference's result on the same arguments. -/
theorem array_eq (m : (ℓ : Loc nD τ sig) → Buf (Elt Ideal) ℓ) (c : Dev nD) :
    Cert.KernelIdeal.Value.G3 m c
      = refResult (m ((c.tc : Thread nD τ).loc main_arg0)) (m ((c.tc : Thread nD τ).loc main_arg1)) (m ((c.tc : Thread nD τ).loc main_arg2)) := by
  refine funext fun (j : S256x14336.Idx) => ?_
  have hb : (j 1).val < 14336 := (j 1).isLt
  have hj : j = ix2 (j 0 : Fin 256) (column ⟨(j 1).val / 1024, by omega⟩ ⟨(j 1).val % 1024, by omega⟩) := by
    have hc : column ⟨(j 1).val / 1024, by omega⟩ ⟨(j 1).val % 1024, by omega⟩ = j 1 := Fin.ext (Nat.div_add_mod (j 1).val 1024)
    rw [hc]
    exact eq_ix2 j
  exact hj ▸ array_eq_at m c (j 0) ⟨(j 1).val / 1024, by omega⟩ ⟨(j 1).val % 1024, by omega⟩

end Arrays

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Bf16Pair
public import Idealize.ShloMosaic.Lib.Quiescent

@[expose] public section

noncomputable section

namespace Cert.Proof

open Idealize.ShloMosaic Idealize.SL.Sem Cert.Kernel

/-- Every run of the reference leaves its result, in closed form, and its arguments unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v30)
            = refResult (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run Cert.ReferenceIdeal.defs _ _).mono (fun _ h c => ⟨(h c).1.trans rfl, (h c).2⟩) (Cert.ReferenceIdeal.Value.run m ρ)

/-- From equal arguments the kernel and the reference, in extended reals, leave equal results. -/
theorem algebraic : Cert.algebraic_KernelIdeal_ReferenceIdeal := by
  intro m g m' g' _ hm
  refine ⟨fun c => Cert.KernelIdeal.Value.G3 m c, Cert.KernelIdeal.Value.run m g, ?_⟩
  refine (θ_run Cert.ReferenceIdeal.defs _ _).mono (fun r h c => ⟨(h c).1.trans ?_, (h c).2⟩) (reference_run m' g')
  rw [(hm c).1, (hm c).2.1, (hm c).2.2]
  exact (array_eq m c).symm

/-- The five claims: the three programs run to the end and keep their arguments; reading the paired words as rows keeps their
    meaning; and the kernel's result is the reference's. -/
theorem claim : Cert.Claim := ⟨Cert.Kernel.Gen.facts, Cert.KernelIdeal.Gen.facts, Cert.ReferenceIdeal.Gen.facts, fun m ρ _ => Cert.Kernel.Gen.frame m ρ,
  fun m ρ _ => Cert.KernelIdeal.Gen.frame m ρ, fun m ρ _ => (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run m ρ),
  ⟨IdealRules.bf16_pair.halfStatement _, IdealRules.bf16_pair.statement _ _⟩, algebraic⟩

end Cert.Proof

end
